-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x4096 : Shape := ⟨3, ![4, 2048, 4096]⟩
abbrev S4096x24576 : Shape := ⟨2, ![4096, 24576]⟩
abbrev S24576 : Shape := ⟨1, ![24576]⟩
abbrev S12288x4096 : Shape := ⟨2, ![12288, 4096]⟩
abbrev S4096 : Shape := ⟨1, ![4096]⟩
abbrev S8192x4096 : Shape := ⟨2, ![8192, 4096]⟩
abbrev S1x24576 : Shape := ⟨2, ![1, 24576]⟩
abbrev S1x4096 : Shape := ⟨2, ![1, 4096]⟩
abbrev S512x4096 : Shape := ⟨2, ![512, 4096]⟩
abbrev S4096x1024 : Shape := ⟨2, ![4096, 1024]⟩
abbrev S1x1024 : Shape := ⟨2, ![1, 1024]⟩
abbrev S1024x4096 : Shape := ⟨2, ![1024, 4096]⟩
abbrev S512x1024 : Shape := ⟨2, ![512, 1024]⟩

abbrev nBuf : Space → Nat
  | .hbm => 10
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x24576, .i8⟩
  | .hbm, ⟨2, _⟩ => ⟨S24576, .f32⟩
  | .hbm, ⟨3, _⟩ => ⟨S12288x4096, .i8⟩
  | .hbm, ⟨4, _⟩ => ⟨S4096, .f32⟩
  | .hbm, ⟨5, _⟩ => ⟨S8192x4096, .f32⟩
  | .hbm, ⟨6, _⟩ => ⟨S8192x4096, .bf16⟩
  | .hbm, ⟨7, _⟩ => ⟨S1x24576, .f32⟩
  | .hbm, ⟨8, _⟩ => ⟨S1x4096, .f32⟩
  | .hbm, ⟨9, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .i8⟩
  | .local _ .vmem, ⟨3, _⟩ => ⟨S4096x1024, .i8⟩
  | .local _ .vmem, ⟨4, _⟩ => ⟨S4096x1024, .i8⟩
  | .local _ .vmem, ⟨5, _⟩ => ⟨S4096x1024, .i8⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x4096, .i8⟩
  | .local _ .vmem, ⟨11, _⟩ => ⟨S1024x4096, .i8⟩
  | .local _ .vmem, ⟨12, _⟩ => ⟨S1x4096, .f32⟩
  | .local _ .vmem, ⟨13, _⟩ => ⟨S512x4096, .f32⟩
  | .local _ .vmem, ⟨14, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x4096 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4x2048x4096 : Shape := ⟨3, ![4, 2048, 4096]⟩
abbrev S4096x24576 : Shape := ⟨2, ![4096, 24576]⟩
abbrev S24576 : Shape := ⟨1, ![24576]⟩
abbrev S12288x4096 : Shape := ⟨2, ![12288, 4096]⟩
abbrev S4096 : Shape := ⟨1, ![4096]⟩
abbrev S8192x4096 : Shape := ⟨2, ![8192, 4096]⟩
abbrev S1x24576 : Shape := ⟨2, ![1, 24576]⟩
abbrev S8192x24576 : Shape := ⟨2, ![8192, 24576]⟩
abbrev S8192x12288 : Shape := ⟨2, ![8192, 12288]⟩
abbrev S1x4096 : Shape := ⟨2, ![1, 4096]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x24576, .i8⟩
  | .hbm, ⟨2, _⟩ => ⟨S24576, .f32⟩
  | .hbm, ⟨3, _⟩ => ⟨S12288x4096, .i8⟩
  | .hbm, ⟨4, _⟩ => ⟨S4096, .f32⟩
  | .hbm, ⟨5, _⟩ => ⟨S8192x4096, .f32⟩
  | .hbm, ⟨6, _⟩ => ⟨S8192x4096, .f32⟩
  | .local _ .vmem, ⟨0, _⟩ => ⟨S8192x4096, .f32⟩
  | .local _ .vmem, ⟨1, _⟩ => ⟨S4096x24576, .i8⟩
  | .local _ .vmem, ⟨2, _⟩ => ⟨S24576, .f32⟩
  | .local _ .vmem, ⟨3, _⟩ => ⟨S12288x4096, .i8⟩
  | .local _ .vmem, ⟨4, _⟩ => ⟨S4096, .f32⟩
  | .local _ .vmem, ⟨5, _⟩ => ⟨S8192x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x24576 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x4096 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Mlp.lean ====
/- Hand-written, untrusted. The SwiGLU MLP over the extended reals as one function of whole arrays, and the
   re-blocking of its hidden axis. -/
module

public import Idealize.ShloMosaic.PureOps.Ideal

@[expose] public section

noncomputable section

namespace Cert.Proof.Mlp

open Idealize.ShloMosaic
open scoped BigOperators

/-- One row of activations against one column of weights: 4096 products summed. -/
def dot (x w : Fin 4096 → EReal) : EReal := ∑ k : Fin 4096, x k * w k

/-- The gated unit: `silu(gate) * up`, with `silu(g) = g * logistic(g)`. -/
def gated (gate up : EReal) : EReal := gate * Ideal.logistic gate * up

/-- Hidden unit `f` of row `x`: its gate column is column `f` of the joint weights `w`, its up column is column `12288 + f`. -/
def hiddenUnit (x : Fin 4096 → EReal) (w : Fin 4096 → Fin 24576 → EReal) (f : Fin 12288) : EReal :=
  gated (dot x fun k => w k ⟨f.val, by omega⟩) (dot x fun k => w k ⟨12288 + f.val, by omega⟩)

/-- One element of the MLP's result: the row's 12288 hidden units against one column `d` of the down weights. -/
def mlp (x : Fin 4096 → EReal) (w : Fin 4096 → Fin 24576 → EReal) (d : Fin 12288 → EReal) : EReal :=
  ∑ f : Fin 12288, hiddenUnit x w f * d f

/-- Unit `q` of tile `s` of the hidden axis, 12 tiles of 1024 units. -/
abbrev unit (s : Fin 12) (q : Fin 1024) : Fin 12288 := ⟨1024 * s.val + q.val, by omega⟩

/-- A sum over the 12288 hidden units is the sum over 12 tiles of the sums over their 1024 units. -/
theorem sum_tiles (g : Fin 12288 → EReal) : ∑ f, g f = ∑ s : Fin 12, ∑ q : Fin 1024, g (unit s q) := by
  have e : ∑ x : Fin 12 × Fin 1024, g (unit x.1 x.2) = ∑ f : Fin (12 * 1024), g f :=
    Fintype.sum_equiv finProdFinEquiv _ _ fun x => congrArg g (Fin.ext (by simp [finProdFinEquiv]; omega))
  rw [← Fintype.sum_prod_type' (fun s q => g (unit s q)), e]

end Cert.Proof.Mlp

end
-- ==== Proof.Block.lean ====
/- Hand-written, untrusted. The kernel body's payloads and the reference body's payload, each read at one element
   over the extended reals. -/
module

public import proofs.«01_k».proof.Proof.Gen.KernelIdeal.Skeleton
public import proofs.«01_k».proof.Proof.Gen.ReferenceIdeal.Skeleton
public import proofs.«01_k».proof.Proof.Mlp
public import Idealize.ShloMosaic.PureOps.Ideal
public import Idealize.ShloMosaic.Lib.Pointwise

@[expose] public section

noncomputable section

namespace Cert.Proof.Block

open Idealize.ShloMosaic Cert.Proof.Mlp
open scoped BigOperators

section Kernel
open Cert.KernelIdeal Cert.KernelIdeal.Gen

/-- The first point of a row tile stores zero. -/
theorem zero_apply (j : S512x4096.Idx) : k0_pay1 (F := Ideal) j = 0 := by
  pointwise [k0_pay1]

/-- What one grid point adds at row `r`, column `c` of its output block, from its seven input blocks. -/
def part (x : Vec Ideal S512x4096 .bf16) (wg : Vec Ideal S4096x1024 .i8) (wu : Vec Ideal S4096x1024 .i8)
    (sg : Vec Ideal S1x1024 .f32) (su : Vec Ideal S1x1024 .f32) (wd : Vec Ideal S1024x4096 .i8)
    (sd : Vec Ideal S1x4096 .f32) (r : Fin 512) (c : Fin 4096) : EReal :=
  ∑ q : Fin 1024, gated
      (dot (fun k => x (ix2 r k)) fun k => FloatOps.sitofp (F := Ideal) FTy.bf16 (wg (ix2 k q)) * sg (ix2 0 q))
      (dot (fun k => x (ix2 r k)) fun k => FloatOps.sitofp (F := Ideal) FTy.bf16 (wu (ix2 k q)) * su (ix2 0 q))
    * (FloatOps.sitofp (F := Ideal) FTy.bf16 (wd (ix2 q c)) * sd (ix2 0 c))

set_option maxRecDepth 16384 in
/-- A grid point stores what its output block held plus its `part`. -/
theorem step_apply (x : Vec Ideal S512x4096 .bf16) (wg : Vec Ideal S4096x1024 .i8)
    (sg : Vec Ideal S1x1024 .f32) (wu : Vec Ideal S4096x1024 .i8) (su : Vec Ideal S1x1024 .f32)
    (acc : Vec Ideal S512x4096 .f32) (wd : Vec Ideal S1024x4096 .i8) (sd : Vec Ideal S1x4096 .f32)
    (r : Fin 512) (c : Fin 4096) :
    k0_pay2 (F := Ideal) x wg sg wu su acc wd sd (ix2 r c) = acc (ix2 r c) + part x wg wu sg su wd sd r c := by
  pointwise [k0_pay2, part, gated, dot]

end Kernel

section Reference
open Cert.ReferenceIdeal Cert.ReferenceIdeal.Gen

set_option maxRecDepth 16384 in
/-- The reference stores the MLP of its five arrays. -/
theorem reference_apply (x : Vec Ideal S8192x4096 .f32) (w : Vec Ideal S4096x24576 .i8) (s : Vec Ideal S24576 .f32)
    (wd : Vec Ideal S12288x4096 .i8) (sd : Vec Ideal S4096 .f32) (r : Fin 8192) (c : Fin 4096) :
    k0_pay1 (F := Ideal) x w s wd sd (ix2 r c)
      = mlp (fun k => x (ix2 r k)) (fun k n => FloatOps.sitofp (F := Ideal) FTy.bf16 (w (ix2 k n)) * s (ix1 n))
          (fun f => FloatOps.sitofp (F := Ideal) FTy.bf16 (wd (ix2 f c)) * sd (ix1 c)) := by
  pointwise [k0_pay1, mlp, hiddenUnit, gated, dot]

end Reference

end Cert.Proof.Block

end
-- ==== Proof.Arrays.lean ====
/- Hand-written, untrusted. What the kernel's runs leave in its result array: which elements of the argument arrays
   each block holds, what a grid point adds to its output block, and the sum of the twelve points of a row tile. -/
module

public import proofs.«01_k».proof.Proof.Gen.KernelIdeal.Value
public import proofs.«01_k».proof.Proof.Block
public import Idealize.ShloMosaic.Lib.Claim

@[expose] public section

noncomputable section

namespace Cert.Proof.Arrays

open Idealize.ShloMosaic Idealize.ShloMosaic.TcCoe Idealize.SL.Sem
open Cert.Proof.Mlp Cert.Proof.Block
open Cert.KernelIdeal Cert.KernelIdeal.Gen Cert.KernelIdeal.Value
open scoped BigOperators

variable (m : (ℓ : Loc nD τ sig) → Buf (Elt Ideal) ℓ) (c : Dev nD)

/-- The windows' block indices at point `t`. -/
theorem idx_in : ∀ t : Fin cfg0.N,
    (win0_0.index t 0 = t.val / 12 ∧ win0_0.index t 1 = 0)
    ∧ (win0_1.index t 0 = 0 ∧ win0_1.index t 1 = t.val % 12)
    ∧ (win0_2.index t 0 = 0 ∧ win0_2.index t 1 = 12 + t.val % 12)
    ∧ (win0_3.index t 0 = 0 ∧ win0_3.index t 1 = t.val % 12)
    ∧ (win0_4.index t 0 = 0 ∧ win0_4.index t 1 = 12 + t.val % 12)
    ∧ (win0_5.index t 0 = t.val % 12 ∧ win0_5.index t 1 = 0)
    ∧ (win0_6.index t 0 = 0 ∧ win0_6.index t 1 = 0) :=
  (by decide +kernel : ∀ t : Fin grid0.N, _)

/-- The activations, one row per token, as the kernel's region finds them. -/
def X : Vec Ideal S8192x4096 .bf16 := V m c main_v1
/-- The gate and up codes. -/
def Wgu : Vec Ideal S4096x24576 .i8 := V m c main_arg1
/-- Their column scales. -/
def Sgu : Vec Ideal S1x24576 .f32 := V m c main_v2
/-- The down codes. -/
def Wdn : Vec Ideal S12288x4096 .i8 := V m c main_arg3
/-- Their column scales. -/
def Sdn : Vec Ideal S1x4096 .f32 := V m c main_v3

/-! ## Which element of an array each block holds -/

/-- Window 0's block at point `t` holds the 512 rows of row tile `t / 12`. -/
theorem blk0 (t : Fin cfg0.N) (r : Fin 512) (k : Fin 4096) (i : Fin 8192) (hi : i.val = 512 * (t.val / 12) + r.val) :
    iblk m c 0 t (ix2 r k) = X m c (ix2 i k) := by
  obtain ⟨⟨h0, h1⟩, -⟩ := idx_in t
  show X m c _ = X m c _
  refine congrArg _ (Shape.idx_ext₂ ?_ ?_)
  · show win0_0.index t 0 * 512 + 1 * r.val = i.val
    omega
  · show win0_0.index t 1 * 4096 + 1 * k.val = k.val
    omega

/-- Window 1's block holds the 1024 gate columns of hidden tile `t % 12`. -/
theorem blk1 (t : Fin cfg0.N) (k : Fin 4096) (q : Fin 1024) (n : Fin 24576) (hn : n.val = 1024 * (t.val % 12) + q.val) :
    iblk m c 1 t (ix2 k q) = Wgu m c (ix2 k n) := by
  obtain ⟨-, ⟨h0, h1⟩, -⟩ := idx_in t
  show Wgu m c _ = Wgu m c _
  refine congrArg _ (Shape.idx_ext₂ ?_ ?_)
  · show win0_1.index t 0 * 4096 + 1 * k.val = k.val
    omega
  · show win0_1.index t 1 * 1024 + 1 * q.val = n.val
    omega

/-- Window 2's block holds the 1024 up columns of hidden tile `t % 12`, which stand 12288 columns further on. -/
theorem blk2 (t : Fin cfg0.N) (k : Fin 4096) (q : Fin 1024) (n : Fin 24576)
    (hn : n.val = 12288 + (1024 * (t.val % 12) + q.val)) :
    iblk m c 2 t (ix2 k q) = Wgu m c (ix2 k n) := by
  obtain ⟨-, -, ⟨h0, h1⟩, -⟩ := idx_in t
  show Wgu m c _ = Wgu m c _
  refine congrArg _ (Shape.idx_ext₂ ?_ ?_)
  · show win0_2.index t 0 * 4096 + 1 * k.val = k.val
    omega
  · show win0_2.index t 1 * 1024 + 1 * q.val = n.val
    omega

/-- Window 3's block holds the scales of those gate columns. -/
theorem blk3 (t : Fin cfg0.N) (q : Fin 1024) (n : Fin 24576) (hn : n.val = 1024 * (t.val % 12) + q.val) :
    iblk m c 3 t (ix2 0 q) = Sgu m c (ix2 0 n) := by
  obtain ⟨-, -, -, ⟨h0, h1⟩, -⟩ := idx_in t
  show Sgu m c _ = Sgu m c _
  refine congrArg _ (Shape.idx_ext₂ ?_ ?_)
  · show win0_3.index t 0 * 1 + 1 * 0 = 0
    omega
  · show win0_3.index t 1 * 1024 + 1 * q.val = n.val
    omega

/-- Window 4's block holds the scales of those up columns. -/
theorem blk4 (t : Fin cfg0.N) (q : Fin 1024) (n : Fin 24576)
    (hn : n.val = 12288 + (1024 * (t.val % 12) + q.val)) :
    iblk m c 4 t (ix2 0 q) = Sgu m c (ix2 0 n) := by
  obtain ⟨-, -, -, -, ⟨h0, h1⟩, -⟩ := idx_in t
  show Sgu m c _ = Sgu m c _
  refine congrArg _ (Shape.idx_ext₂ ?_ ?_)
  · show win0_4.index t 0 * 1 + 1 * 0 = 0
    omega
  · show win0_4.index t 1 * 1024 + 1 * q.val = n.val
    omega

/-- Window 5's block holds the 1024 down rows of hidden tile `t % 12`. -/
theorem blk5 (t : Fin cfg0.N) (q : Fin 1024) (d : Fin 4096) (f : Fin 12288) (hf : f.val = 1024 * (t.val % 12) + q.val) :
    iblk m c 5 t (ix2 q d) = Wdn m c (ix2 f d) := by
  obtain ⟨-, -, -, -, -, ⟨h0, h1⟩, -⟩ := idx_in t
  show Wdn m c _ = Wdn m c _
  refine congrArg _ (Shape.idx_ext₂ ?_ ?_)
  · show win0_5.index t 0 * 1024 + 1 * q.val = f.val
    omega
  · show win0_5.index t 1 * 4096 + 1 * d.val = d.val
    omega

/-- Window 6's block holds all the down scales. -/
theorem blk6 (t : Fin cfg0.N) (d : Fin 4096) : iblk m c 6 t (ix2 0 d) = Sdn m c (ix2 0 d) := by
  obtain ⟨-, -, -, -, -, -, ⟨h0, h1⟩⟩ := idx_in t
  show Sdn m c _ = Sdn m c _
  refine congrArg _ (Shape.idx_ext₂ ?_ ?_)
  · show win0_6.index t 0 * 1 + 1 * 0 = 0
    omega
  · show win0_6.index t 1 * 4096 + 1 * d.val = d.val
    omega

/-! ## What a point adds, and what a run of twelve points leaves -/

/-- Row `i` of the activations, -/
abbrev row (i : Fin 8192) (k : Fin 4096) : EReal := X m c (ix2 i k)
/-- the dequantised gate and up weights, -/
abbrev wgu (k : Fin 4096) (n : Fin 24576) : EReal :=
  FloatOps.sitofp (F := Ideal) FTy.bf16 (Wgu m c (ix2 k n)) * Sgu m c (ix2 0 n)
/-- and column `d` of the dequantised down weights. -/
abbrev wdn (d : Fin 4096) (f : Fin 12288) : EReal :=
  FloatOps.sitofp (F := Ideal) FTy.bf16 (Wdn m c (ix2 f d)) * Sdn m c (ix2 0 d)

/-- Point `t`, of hidden tile `t % 12`, adds that tile's units times their down weights. -/
theorem part_eq (t : Fin cfg0.N) (r : Fin 512) (d : Fin 4096) (i : Fin 8192) (hi : i.val = 512 * (t.val / 12) + r.val)
    (s : Fin 12) (hs : t.val % 12 = s.val) :
    part (iblk m c 0 t) (iblk m c 1 t) (iblk m c 2 t) (iblk m c 3 t) (iblk m c 4 t) (iblk m c 5 t) (iblk m c 6 t) r d
      = ∑ q : Fin 1024, hiddenUnit (row m c i) (wgu m c) (unit s q) * wdn m c d (unit s q) := by
  unfold part hiddenUnit
  refine Finset.sum_congr rfl fun q _ => ?_
  have h3 := blk3 m c t q ⟨(unit s q).val, by omega⟩ (by rw [hs])
  have h4 := blk4 m c t q ⟨12288 + (unit s q).val, by omega⟩ (by rw [hs])
  have h5 := blk5 m c t q d (unit s q) (by rw [hs])
  rw [h3, h4, h5, blk6 m c t d]
  have e0 : (fun k => iblk m c 0 t (ix2 r k)) = row m c i := funext fun k => blk0 m c t r k i hi
  have e1 : (fun k => FloatOps.sitofp (F := Ideal) FTy.bf16 (iblk m c 1 t (ix2 k q)) * Sgu m c (ix2 0 ⟨(unit s q).val, by omega⟩))
      = fun k => wgu m c k ⟨(unit s q).val, by omega⟩ :=
    funext fun k => by rw [blk1 m c t k q ⟨(unit s q).val, by omega⟩ (by rw [hs])]
  have e2 : (fun k => FloatOps.sitofp (F := Ideal) FTy.bf16 (iblk m c 2 t (ix2 k q)) * Sgu m c (ix2 0 ⟨12288 + (unit s q).val, by omega⟩))
      = fun k => wgu m c k ⟨12288 + (unit s q).val, by omega⟩ :=
    funext fun k => by rw [blk2 m c t k q ⟨12288 + (unit s q).val, by omega⟩ (by rw [hs])]
  rw [e0, e1, e2]

/-- What point `n` adds to its output block, as a function of the point's number. -/
def addend (n : ℕ) (j : S512x4096.Idx) : EReal :=
  if h : n < cfg0.N then
    part (iblk m c 0 ⟨n, h⟩) (iblk m c 1 ⟨n, h⟩) (iblk m c 2 ⟨n, h⟩) (iblk m c 3 ⟨n, h⟩) (iblk m c 4 ⟨n, h⟩)
      (iblk m c 5 ⟨n, h⟩) (iblk m c 6 ⟨n, h⟩) (j 0) (j 1)
  else 0

/-- A later point of a run adds its addend to what the output block holds. -/
theorem step7_apply (n : ℕ) (h : n < cfg0.N) (acc : Vec Ideal S512x4096 .f32) (j : S512x4096.Idx) :
    step7 m c n h acc j = acc j + addend m c n j := by
  obtain ⟨r, d, rfl⟩ : ∃ (r : Fin 512) (d : Fin 4096), j = ix2 r d := ⟨j 0, j 1, eq_ix2 j⟩
  unfold step7 addend
  rw [step_apply, dif_pos h]
  rfl

/-- The first point of a run leaves zero plus its addend, whatever the output block held. -/
theorem reset7_apply (n : ℕ) (h : n < cfg0.N) (j : S512x4096.Idx) :
    reset7 m c n h j = 0 + addend m c n j := by
  obtain ⟨r, d, rfl⟩ : ∃ (r : Fin 512) (d : Fin 4096), j = ix2 r d := ⟨j 0, j 1, eq_ix2 j⟩
  unfold reset7 addend
  rw [step_apply, zero_apply, dif_pos h]
  rfl

/-- A run of twelve points from `b` leaves the sum of their addends. -/
theorem run_apply (b : ℕ) (h : b + 11 < cfg0.N) (j : S512x4096.Idx) :
    (Pipeline.accAt (reset7 m c) (step7 m c) b 11 h : Vec Ideal S512x4096 .f32) j
      = ∑ s : Fin 12, addend m c (b + s.val) j := by
  have e := Pipeline.accAt_add_apply (β := EReal) (reset7 m c) (step7 m c) (fun _ => (0 : EReal)) (addend m c)
    b 11 (fun h j => reset7_apply m c _ h j) (fun n h acc j _ _ => step7_apply m c n h acc j) 11 le_rfl h j
  rw [zero_add, Finset.sum_range (n := 11 + 1)] at e
  exact e

/-- The run of row tile `i / 512` leaves the MLP of row `i` at column `d`. -/
theorem run_mlp (i : Fin 8192) (d : Fin 4096) :
    ∑ s : Fin 12, addend m c (12 * (i.val / 512) + s.val) (ix2 ⟨i.val % 512, by omega⟩ d)
      = mlp (row m c i) (wgu m c) (wdn m c d) := by
  have hN : cfg0.N = 192 := N_0
  unfold mlp
  rw [sum_tiles]
  refine Finset.sum_congr rfl fun s _ => ?_
  have hs : s.val < 12 := s.isLt
  have hlt : 12 * (i.val / 512) + s.val < cfg0.N := by rw [hN]; omega
  unfold addend
  rw [dif_pos hlt]
  exact part_eq m c ⟨_, hlt⟩ ⟨i.val % 512, by omega⟩ d i
    (show i.val = 512 * ((12 * (i.val / 512) + s.val) / 12) + i.val % 512 by omega) s
    (show (12 * (i.val / 512) + s.val) % 12 = s.val by omega)

/-- THE KERNEL'S ARRAY: element `(i, d)` is the MLP of row `i` at column `d`. -/
theorem G7_apply (i : Fin 8192) (d : Fin 4096) :
    G7 m c (ix2 i d) = mlp (row m c i) (wgu m c) (wdn m c d) := by
  have hN : cfg0.N = 192 := N_0
  have hrun : run7Of (ix2 i d) = i.val / 512 := by
    show 1 * (i.val / 512 - 0) + 1 * (d.val / 4096 - 0) = _
    omega
  have hloc : loc7Of (ix2 i d) = ix2 ⟨i.val % 512, by omega⟩ d :=
    Shape.idx_ext₂ rfl (show d.val % 4096 = d.val by omega)
  have hb : 12 * run7Of (ix2 i d) + 11 < cfg0.N := by rw [hrun, hN]; omega
  unfold G7
  rw [dif_pos hb, run_apply, hrun, hloc]
  exact run_mlp m c i d

end Cert.Proof.Arrays

end
-- ==== Proof.RefValue.lean ====
/- Hand-written, untrusted. What the reference's run leaves in its result array: its one body's payload at the five
   arrays its call takes. -/
module

public import proofs.«01_k».proof.Proof.Gen.ReferenceIdeal.Value
public import proofs.«01_k».proof.Proof.Block
public import Idealize.ShloMosaic.Lib.Pipeline.Value
public import Idealize.ShloMosaic.Lib.Affine
public import Idealize.ShloMosaic.Lib.Claim

@[expose] public section

noncomputable section

namespace Cert.Proof.RefValue

open Idealize.ShloMosaic Idealize.ShloMosaic.TcCoe Idealize.SL.Sem
open Cert.ReferenceIdeal Cert.ReferenceIdeal.Gen
open Idealize.ShloMosaic.Pipeline (Dat)

variable {F : FTy → Type} [FloatOps F]
variable (m : (ℓ : Loc nD τ sig) → Buf (Elt F) ℓ) (c : Dev nD)

/-- The one grid point. -/
def t₀ : Fin cfg0.N := ⟨0, by decide⟩

theorem hz1 : (![0] : Fin 1 → Nat) = fun _ => 0 := funext fun a => by fin_cases a; rfl

theorem hz2 : (![0, 0] : Fin 2 → Nat) = fun _ => 0 := funext fun a => by fin_cases a <;> rfl

/-- The body's whole-buffer loads read the buffers, and its one covering store leaves its payload. -/
theorem out_eq (x0 : Vec F S8192x4096 .f32) (x1 : Vec F S4096x24576 .i8) (x2 : Vec F S24576 .f32)
    (x3 : Vec F S12288x4096 .i8) (x4 : Vec F S4096 .f32) : out0_5 x0 x1 x2 x3 x4 = k0_pay1 x0 x1 x2 x3 x4 := by
  unfold out0_5
  rw [View.canon_unit_zero (S := S8192x4096) hz2, View.ld_unit_zero (S := S8192x4096) hz2,
    View.ld_unit_zero (S := S4096x24576) hz2, View.ld_unit_zero (S := S24576) hz1,
    View.ld_unit_zero (S := S12288x4096) hz2, View.ld_unit_zero (S := S4096) hz1]

/-- Every window's block is its whole array. -/
theorem idx0 : ∀ t : Fin cfg0.N, (win0_0.index t 0 = 0 ∧ win0_0.index t 1 = 0) ∧ (win0_1.index t 0 = 0 ∧ win0_1.index t 1 = 0)
    ∧ win0_2.index t 0 = 0 ∧ (win0_3.index t 0 = 0 ∧ win0_3.index t 1 = 0)
    ∧ win0_4.index t 0 = 0 ∧ (win0_5.index t 0 = 0 ∧ win0_5.index t 1 = 0) :=
  (by decide +kernel : ∀ t : Fin grid0.N, _)

/-- Two indices of a one-axis shape are equal when their one coordinate is. -/
theorem idx_ext₁ {n : ℕ} {i j : (⟨1, ![n]⟩ : Shape).Idx} (h : (i 0).val = (j 0).val) : i = j :=
  funext fun a => by fin_cases a; exact Fin.ext h

/-- Window 0's block is the activations, one row per token. -/
theorem iblk0 (t : Fin cfg0.N) : iblk m c 0 t = V m c main_v0 := by
  obtain ⟨h0, h1⟩ : win0_0.index t 0 = 0 ∧ win0_0.index t 1 = 0 := by have := idx0 t; tauto
  funext y
  show V m c main_v0 _ = V m c main_v0 y
  refine congrArg _ (Shape.idx_ext₂ ?_ ?_)
  · show win0_0.index t 0 * 8192 + 1 * (y 0).val = (y 0).val
    omega
  · show win0_0.index t 1 * 4096 + 1 * (y 1).val = (y 1).val
    omega

/-- Window 1's block is the gate and up codes. -/
theorem iblk1 (t : Fin cfg0.N) : iblk m c 1 t = V m c main_arg1 := by
  obtain ⟨h0, h1⟩ : win0_1.index t 0 = 0 ∧ win0_1.index t 1 = 0 := by have := idx0 t; tauto
  funext y
  show V m c main_arg1 _ = V m c main_arg1 y
  refine congrArg _ (Shape.idx_ext₂ ?_ ?_)
  · show win0_1.index t 0 * 4096 + 1 * (y 0).val = (y 0).val
    omega
  · show win0_1.index t 1 * 24576 + 1 * (y 1).val = (y 1).val
    omega

/-- Window 2's block is their scales. -/
theorem iblk2 (t : Fin cfg0.N) : iblk m c 2 t = V m c main_arg2 := by
  have h0 : win0_2.index t 0 = 0 := by have := idx0 t; tauto
  funext y
  show V m c main_arg2 _ = V m c main_arg2 y
  refine congrArg _ (idx_ext₁ ?_)
  show win0_2.index t 0 * 24576 + 1 * (y 0).val = (y 0).val
  omega

/-- Window 3's block is the down codes. -/
theorem iblk3 (t : Fin cfg0.N) : iblk m c 3 t = V m c main_arg3 := by
  obtain ⟨h0, h1⟩ : win0_3.index t 0 = 0 ∧ win0_3.index t 1 = 0 := by have := idx0 t; tauto
  funext y
  show V m c main_arg3 _ = V m c main_arg3 y
  refine congrArg _ (Shape.idx_ext₂ ?_ ?_)
  · show win0_3.index t 0 * 12288 + 1 * (y 0).val = (y 0).val
    omega
  · show win0_3.index t 1 * 4096 + 1 * (y 1).val = (y 1).val
    omega

/-- Window 4's block is their scales. -/
theorem iblk4 (t : Fin cfg0.N) : iblk m c 4 t = V m c main_arg4 := by
  have h0 : win0_4.index t 0 = 0 := by have := idx0 t; tauto
  funext y
  show V m c main_arg4 _ = V m c main_arg4 y
  refine congrArg _ (idx_ext₁ ?_)
  show win0_4.index t 0 * 4096 + 1 * (y 0).val = (y 0).val
  omega

/-- The result array holds the body's payload at the five arrays. -/
theorem final5 : (dats m 0 c).arrAt 5 cfg0.N
    = k0_pay1 (V m c main_v0) (V m c main_arg1) (V m c main_arg2) (V m c main_arg3) (V m c main_arg4) := by
  refine (dats m 0 c).arrAt_eq_of_cover 5 _ (fun t _ => ?_) (fun i => ⟨t₀, by decide, ?_⟩)
  · rw [Value.flushed5, out_eq, iblk0, iblk1, iblk2, iblk3, iblk4]
    obtain ⟨h0, h1⟩ : win0_5.index t 0 = 0 ∧ win0_5.index t 1 = 0 := by have := idx0 t; tauto
    funext y
    refine congrArg (k0_pay1 (V m c main_v0) (V m c main_arg1) (V m c main_arg2) (V m c main_arg3) (V m c main_arg4))
      (Shape.idx_ext₂ ?_ ?_)
    · show (y 0).val = win0_5.index t 0 * 8192 + 1 * (y 0).val
      omega
    · show (y 1).val = win0_5.index t 1 * 4096 + 1 * (y 1).val
      omega
  · show i ∈ ((View.whole main_v1).slice (win0_5.rect t₀)).set
    rw [View.set_slice_whole, Rect.mem_set_unit]
    obtain ⟨h0, h1⟩ : win0_5.index t₀ 0 = 0 ∧ win0_5.index t₀ 1 = 0 := by have := idx0 t₀; tauto
    intro a
    have hi0 : (i 0).val < 8192 := (i 0).isLt
    have hi1 : (i 1).val < 4096 := (i 1).isLt
    match a with
    | ⟨0, _⟩ => show win0_5.index t₀ 0 * 8192 ≤ (i 0).val ∧ (i 0).val < win0_5.index t₀ 0 * 8192 + 8192; omega
    | ⟨1, _⟩ => show win0_5.index t₀ 1 * 4096 ≤ (i 1).val ∧ (i 1).val < win0_5.index t₀ 1 * 4096 + 4096; omega

end Cert.Proof.RefValue

end
-- ==== Proof.Equal.lean ====
/- Hand-written, untrusted. THE EQUATION: from memories that agree on the arguments, the kernel's array and the
   reference's array hold the same extended reals. -/
module

public import proofs.«01_k».proof.Proof.Arrays
public import proofs.«01_k».proof.Proof.RefValue

@[expose] public section

noncomputable section

namespace Cert.Proof.Equal

open Idealize.ShloMosaic Idealize.ShloMosaic.TcCoe Idealize.SL.Sem
open Cert.Proof.Mlp

/-! ## The kernel's arrays in terms of its arguments -/

section Kernel
open Cert.KernelIdeal Cert.KernelIdeal.Gen
variable (m : (ℓ : Loc nD τ sig) → Buf (Elt Ideal) ℓ) (c : Dev nD)

/-- The rows are the first argument's, reshaped (the rounding to bfloat16 is the identity here). -/
theorem kX : Arrays.X m c = fun i => shapeCast S8192x4096 (m ((c : Thread nD τ).loc main_arg0)) shapeCasts_S4x2048x4096_S8192x4096 i := by
  unfold Arrays.X
  entry_read
  rfl

/-- The gate and up codes are the second argument. -/
theorem kWgu : Arrays.Wgu m c = m ((c : Thread nD τ).loc main_arg1) := V_main_arg1 m c

/-- Their scales are the third argument's, laid as one row. -/
theorem kSgu (n : Fin 24576) : Arrays.Sgu m c (ix2 0 n) = (m ((c : Thread nD τ).loc main_arg2) : Vec Ideal S24576 .f32) (ix1 n) := by
  unfold Arrays.Sgu
  entry_read
  pointwise

/-- The down codes are the fourth argument. -/
theorem kWdn : Arrays.Wdn m c = m ((c : Thread nD τ).loc main_arg3) := V_main_arg3 m c

/-- Their scales are the fifth argument's, laid as one row. -/
theorem kSdn (n : Fin 4096) : Arrays.Sdn m c (ix2 0 n) = (m ((c : Thread nD τ).loc main_arg4) : Vec Ideal S4096 .f32) (ix1 n) := by
  unfold Arrays.Sdn
  entry_read
  pointwise

end Kernel

/-! ## The reference's rows in terms of its argument -/

section Reference
open Cert.ReferenceIdeal Cert.ReferenceIdeal.Gen
variable (m : (ℓ : Loc nD τ sig) → Buf (Elt Ideal) ℓ) (c : Dev nD)

/-- Its rows are the first argument's, reshaped. -/
theorem rX : V m c main_v0 = fun i => shapeCast S8192x4096 (m ((c : Thread nD τ).loc main_arg0)) shapeCasts_S4x2048x4096_S8192x4096 i := by
  entry_read
  rfl

end Reference

/-! ## The equation -/

/-- At agreeing arguments the array the kernel's runs leave is the array the reference's body leaves. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    (Cert.ReferenceIdeal.Gen.dats m' 0 c).arrAt 5 Cert.ReferenceIdeal.cfg0.N = Cert.KernelIdeal.Value.G7 m c := by
  rw [RefValue.final5]
  funext j
  obtain ⟨i, d, rfl⟩ : ∃ (i : Fin 8192) (d : Fin 4096), j = ix2 i d := ⟨j 0, j 1, eq_ix2 j⟩
  refine (Block.reference_apply _ _ _ _ _ i d).trans ((?_ : _ = _).trans (Arrays.G7_apply m c i d).symm)
  unfold Arrays.row Arrays.wgu Arrays.wdn
  rw [rX, Cert.ReferenceIdeal.Gen.V_main_arg1, Cert.ReferenceIdeal.Gen.V_main_arg2, Cert.ReferenceIdeal.Gen.V_main_arg3,
    Cert.ReferenceIdeal.Gen.V_main_arg4, h0, h1, h2, h3, h4]
  simp only [kX, kWgu, kWdn, kSgu, kSdn]

end Cert.Proof.Equal

end
-- ==== Proof.lean ====
module

public import proofs.«01_k».proof.Proof.Gen.KernelIdeal.Value
public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Kernel and reference, at the ideal instance, leave equal results. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Value.G7 m c, Cert.KernelIdeal.Value.run m g, ?_⟩
  refine (θ_run _ _ _).mono (fun r h c => ?_) (Cert.ReferenceIdeal.Value.run_blocks m' g')
  obtain ⟨h0, h1, h2, h3, h4⟩ := hagree c
  obtain ⟨hv, hk⟩ := h c
  exact ⟨hv.trans (Equal.value_eq m m' c h0 h1 h2 h3 h4), hk⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
